-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonneg [hPre_nonneg : Cert.Pre_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonneg [hPre_nonneg : Cert.Pre_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_nonneg [hKernelIdeal : Cert.KernelIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonneg m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_nonneg [hReferenceIdeal : Cert.ReferenceIdeal.Facts] [hPre_nonneg : Cert.Pre_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_nonneg [hKernelIdeal : Cert.KernelIdeal.Facts] [hReferenceIdeal : Cert.ReferenceIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_nonneg : Cert.Pre_nonneg.Facts),
    quiescent_Kernel (hKernel := hKernel)
    ∧ quiescent_KernelIdeal (hKernelIdeal := hKernelIdeal)
    ∧ quiescent_KernelIdeal_pre_nonneg (hKernelIdeal := hKernelIdeal) (hPre_nonneg := hPre_nonneg)
    ∧ quiescent_ReferenceIdeal (hReferenceIdeal := hReferenceIdeal)
    ∧ quiescent_ReferenceIdeal_pre_nonneg (hReferenceIdeal := hReferenceIdeal) (hPre_nonneg := hPre_nonneg)
    ∧ preserves_Kernel_KernelIdeal
    ∧ algebraic_KernelIdeal_ReferenceIdeal_pre_nonneg (hKernelIdeal := hKernelIdeal) (hReferenceIdeal := hReferenceIdeal) (hPre_nonneg := hPre_nonneg)
-- ==== Pre_nonneg.lean ====
abbrev S2x268435 : Shape := ⟨2, ![2, 268435]⟩
abbrev S268435 : Shape := ⟨1, ![268435]⟩
abbrev S_ : Shape := ⟨0, ![]⟩

class Facts : Prop where
  bcast_S_S268435 : S_.BroadcastsInDim S268435 (![] : Fin 0 → Fin S268435.rank)
  reducesTo_S268435_S_d0 : S268435.ReducesTo [0] S_
  h_S_ : 0 < S_.numel

variable [Facts]

def fn {F : FTy → Type} [FloatOps F] (main_arg0 : IVec S2x268435 32) (main_arg1 : FVec F S268435 .f32) (main_arg2 : FVec F S268435 .f32) : IVec S_ 1 :=
  let main_cst : FVec F S_ .f32 := constant S_ .f32 0x00000000#32
  let main_v0 : FVec F S268435 .f32 := broadcastInDim S268435 ![] bcast_S_S268435 main_cst
  let main_v1 : IVec S268435 1 := cmpf .oge main_arg2 main_v0
  let main_c : IVec S_ 1 := constantI S_ 1 1#1
  let main_v2 : IVec S_ 1 := (fun x v => Host.reduce IntOp.andi x v reducesTo_S268435_S_d0 h_S_) main_v1 main_c
  main_v2
-- ==== Kernel.lean ====
abbrev S2x268435 : Shape := ⟨2, ![2, 268435]⟩
abbrev S268435 : Shape := ⟨1, ![268435]⟩
abbrev S8384 : Shape := ⟨1, ![8384]⟩
abbrev S160 : Shape := ⟨1, ![160]⟩
abbrev S_ : Shape := ⟨0, ![]⟩
abbrev S16 : Shape := ⟨1, ![16]⟩
abbrev S147 : Shape := ⟨1, ![147]⟩

abbrev nBuf : Table → Nat
  | .hbm => 4
  | .local .scVector .vmem => 4
  | _ => 0

abbrev bufTy : (tb : Table) → Fin (nBuf tb) → BufTy
  | .hbm, ⟨0, _⟩ => ⟨S2x268435, .i32⟩
  | .hbm, ⟨1, _⟩ => ⟨S268435, .f32⟩
  | .hbm, ⟨2, _⟩ => ⟨S268435, .f32⟩
  | .hbm, ⟨3, _⟩ => ⟨S268435, .f32⟩
  | .local .scVector .vmem, ⟨0, _⟩ => ⟨S8384, .f32⟩
  | .local .scVector .vmem, ⟨1, _⟩ => ⟨S8384, .f32⟩
  | .local .scVector .vmem, ⟨2, _⟩ => ⟨S160, .f32⟩
  | .local .scVector .vmem, ⟨3, _⟩ => ⟨S160, .f32⟩
  | _, _ => ⟨S2x268435, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg1_scv : Ref sig .scVector := ⟨.hbm, 1, rfl⟩
abbrev main_arg2_scv : Ref sig .scVector := ⟨.hbm, 2, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8384_i32 : BitVec 32 := 8384#32
  let v2 : BitVec 32 := Scalar.muli v1 c8384_i32
  ![v2.toNat]
@[reducible] def k0_t1_loop : Scf.Loop 32 :=
  let c0_i32_0 : BitVec 32 := 0#32
  let c524_i32 : BitVec 32 := 524#32
  let v3 : BitVec 32 := Scalar.addi c0_i32_0 c524_i32
  let c1_i32 : BitVec 32 := 1#32
  ⟨c0_i32_0, v3, c1_i32⟩
def k0_off2 (k0_t1 : Fin k0_t1_loop.trips) : Fin 1 → Nat :=
  let c0_i32_0 : BitVec 32 := 0#32
  let c1_i32 : BitVec 32 := 1#32
  let arg9 : BitVec 32 := Scf.iv c0_i32_0 c1_i32 k0_t1
  let c16_i32 : BitVec 32 := 16#32
  let v7 : BitVec 32 := Scalar.muli arg9 c16_i32
  let v8 : Index := Scalar.indexCast v7
  ![v8.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x268435 : Shape := ⟨2, ![2, 268435]⟩
abbrev S268435 : Shape := ⟨1, ![268435]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S2x268435, .i32⟩
  | .hbm, ⟨1, _⟩ => ⟨S268435, .f32⟩
  | .hbm, ⟨2, _⟩ => ⟨S268435, .f32⟩
  | .hbm, ⟨3, _⟩ => ⟨S_, .f32⟩
  | .hbm, ⟨4, _⟩ => ⟨S268435, .f32⟩
  | .hbm, ⟨5, _⟩ => ⟨S268435, .f32⟩
  | .hbm, ⟨6, _⟩ => ⟨S268435, .f32⟩
  | .hbm, ⟨7, _⟩ => ⟨S_, .f32⟩
  | .hbm, ⟨8, _⟩ => ⟨S268435, .f32⟩
  | .hbm, ⟨9, _⟩ => ⟨S268435, .i1⟩
  | .hbm, ⟨10, _⟩ => ⟨S268435, .i1⟩
  | .hbm, ⟨11, _⟩ => ⟨S_, .f32⟩
  | .hbm, ⟨12, _⟩ => ⟨S_, .f32⟩
  | .hbm, ⟨13, _⟩ => ⟨S268435, .f32⟩
  | .hbm, ⟨14, _⟩ => ⟨S268435, .f32⟩
  | .hbm, ⟨15, _⟩ => ⟨S_, .f32⟩
  | .hbm, ⟨16, _⟩ => ⟨S268435, .f32⟩
  | .hbm, ⟨17, _⟩ => ⟨S268435, .f32⟩
  | _, _ => ⟨S2x268435, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩

abbrev nD : Nat := 1
abbrev τ : Topo := Topo.v7x

variable {F : FTy → Type} [FloatOps F]
-- ==== Proof.Steps.lean ====
/-
  The two moves a tile of the sparse-dropout kernel is made of, stated once for every tile and every step:
  a step over sixteen lanes (load `x`, load `r`, store the gated value over `x`), and a copy that is waited
  for at once. Both are over any signature, so that each program's proof uses them.
-/
module

public import Idealize.ShloMosaic.Lib.SparseCore.Quiescent
public import Idealize.ShloMosaic.Lib.Pipeline.Kit
public import Idealize.ShloMosaic.Lib.Tactic

@[expose] public section

noncomputable section

namespace Cert.Proof.Dropout

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## The values -/

/-- One element: `x` times the scale where `r + 0.9` reaches one, zero elsewhere. -/
def gate (x r : F .f32) : F .f32 :=
  Scalar.select (FloatOps.cmpf .oge (FloatOps.addf r (Scalar.ofBits .f32 0x3F666666#32)) (Scalar.ofBits .f32 0x3F800000#32))
    (FloatOps.mulf x (Scalar.ofBits .f32 0x3F8E38E4#32)) (Scalar.ofBits .f32 0x00000000#32)

/-- A row of `n` elements. -/
abbrev Row (n : ℕ) : Shape := ⟨1, ![n]⟩

/-- The row `A` with its first `o` elements gated by those of `B`. -/
def stage {n : ℕ} (A B : (Row n).Idx → F .f32) (o : ℕ) : (Row n).Idx → F .f32 :=
  fun y => if (y 0).val < o then gate (A y) (B y) else A y

/-- Nothing is gated at first. -/
theorem stage_zero {n : ℕ} (A B : (Row n).Idx → F .f32) : stage A B 0 = A :=
  funext fun _ => if_neg (Nat.not_lt_zero _)

/-- Below `o` an element is gated. -/
theorem stage_of_lt {n : ℕ} (A B : (Row n).Idx → F .f32) {o : ℕ} {y : (Row n).Idx} (h : (y 0).val < o) :
    stage A B o y = gate (A y) (B y) := if_pos h

/-- The sixteen elements at `o` of a row gated below `o`, stored gated by those of `B`: the row is gated below `o + 16`. -/
theorem stage_step {sig : RefSig} {κ : Kind} {n : ℕ} {sp sp' : Space} (v : View sig κ sp (Row n) .f32) (w : View sig κ sp' (Row n) .f32) {off : Fin 1 → ℕ} {o : ℕ} (hoff : off = ![o])
    (inb : ∀ a, off a + (Row 16).size a ≤ (Row n).size a) (pay : ((Row 16).Idx → F .f32) → ((Row 16).Idx → F .f32) → (Row 16).Idx → F .f32)
    (hpay : ∀ a b x, pay a b x = gate (a x) (b x)) (A B : (Row n).Idx → F .f32)
    (f : v.ty.Contents (Elt F)) (g : w.ty.Contents (Elt F)) (hf : v.read (Elt F) f = stage A B o) (hg : w.read (Elt F) g = B) :
    v.read (Elt F) ((v.slice (Rect.unit (s := Row n) off (Row 16).size inb)).write (Elt F) f
      (pay (v.readAt (Elt F) (Rect.unit (s := Row n) off (Row 16).size inb).toLoadRect f)
        (w.readAt (Elt F) (Rect.unit (s := Row n) off (Row 16).size inb).toLoadRect g)) Finset.univ) = stage A B (o + 16) := by
  subst hoff
  funext y
  by_cases hy : o ≤ (y 0).val ∧ (y 0).val < o + 16
  · obtain ⟨x, hx⟩ : ∃ x, (Rect.unit (s := Row n) ![o] (Row 16).size inb).emb x = y := by
      have hm : y ∈ (Rect.unit (s := Row n) ![o] (Row 16).size inb).set :=
        Rect.mem_set_unit.mpr fun a => by
          obtain rfl : a = 0 := Subsingleton.elim _ _
          exact hy
      rw [← Rect.map_emb_univ] at hm
      obtain ⟨x, -, hx⟩ := Finset.mem_map.mp hm
      exact ⟨x, hx⟩
    subst hx
    rw [View.read_slice_write_emb _ _ _ (Finset.mem_univ x), hpay, stage_of_lt A B hy.2]
    have h1 : v.readAt (Elt F) (Rect.unit (s := Row n) ![o] (Row 16).size inb).toLoadRect f x
        = A ((Rect.unit (s := Row n) ![o] (Row 16).size inb).emb x) := by
      show v.read (Elt F) f ((Rect.unit (s := Row n) ![o] (Row 16).size inb).emb x) = _
      rw [hf]
      exact if_neg (Nat.not_lt.mpr hy.1)
    have h2 : w.readAt (Elt F) (Rect.unit (s := Row n) ![o] (Row 16).size inb).toLoadRect g x
        = B ((Rect.unit (s := Row n) ![o] (Row 16).size inb).emb x) := by
      show w.read (Elt F) g ((Rect.unit (s := Row n) ![o] (Row 16).size inb).emb x) = _
      rw [hg]
    rw [h1, h2]
  · rw [View.read_slice_write_of_not_mem _ _ _ _ (fun hm => hy ?_), hf]
    · unfold stage
      by_cases h : (y 0).val < o
      · rw [if_pos h, if_pos (by omega)]
      · rw [if_neg h, if_neg (by omega)]
    · rw [Rect.map_emb_univ] at hm
      exact Rect.mem_set_unit.mp hm 0

/-! ## The moves -/

section Moves

variable {nD : Nat} {τ : Topo} {sig : RefSig} {Ix : Type} [DecidableEq Ix] {Name : Type} [DecidableEq Name] {U : Type} [URA U]
  {Lvl : Type} [Preorder Lvl] {Λ : Labels} {defs : Defs nD τ sig (Elt F) Λ} (𝒱 : Variants) (c : Thread nD τ) (bd : Option 𝒱.V)
  {α : Type} {Q : α → sProp (MT nD τ sig Ix (Elt F) Name U Lvl)}

/-- A thread holds the whole buffer of `a`, which reads `A`. -/
def holds {sp : Space} {s : Shape} {e : EltTy} (a : Memref sig c.2.kind sp s e) (A : s.Idx → Elt F e) : sProp (MT nD τ sig Ix (Elt F) Name U Lvl) :=
  iprop(∃ f : Buf (Elt F) (a.view.loc c), ⌜a.view.read (Elt F) f = A⌝ ∗ (a.view.loc c ↦[Finset.univ]{fullShare} f))

/-- What a thread owes, its waits so far being those of `W` and waits at index `ι`. -/
def duty (ι : Ix) (O : CellTallies nD τ sig Ix) (W : Waits sig Ix) : sProp (MT nD τ sig Ix (Elt F) Name U Lvl) :=
  iprop(∃ W', ⌜∀ p ∈ W', p ∈ W ∨ p.2 = ι⌝ ∗ owes c O W')

/-- A step over the sixteen lanes at `o`: two loads, a third whose value is unused, and a store of the gated values. -/
theorem wp_lanes {n : ℕ} {a b : Memref sig c.2.kind .vmem (Row n) .f32} {off : Fin 1 → ℕ} {inb : ∀ x, off x + (Row 16).size x ≤ (Row n).size x}
    {pay : ((Row 16).Idx → F .f32) → ((Row 16).Idx → F .f32) → (Row 16).Idx → F .f32}
    {ha : a.view.LoadsAt (Rect.unit (s := Row n) off (Row 16).size inb).toLoadRect}
    {hb : b.view.LoadsAt (Rect.unit (s := Row n) off (Row 16).size inb).toLoadRect}
    {ha' : a.view.LoadsAt (Rect.unit (s := Row n) off (Row 16).size inb).toLoadRect}
    {hx : (a.access (Rect.unit (s := Row n) off (Row 16).size inb)).Stores Finset.univ}
    {hm : (Finset.univ : Finset (Rect.unit (s := Row n) off (Row 16).size inb).shape.Idx) = Finset.univ ∨ ∀ x, (Rect.unit (s := Row n) off (Row 16).size inb).stride x = 1}
    {k : PUnit → Prog (TpuEff nD τ sig (Elt F) Λ c.2) α} (A B : (Row n).Idx → F .f32) (o : ℕ) (hoff : off = ![o])
    (hpay : ∀ v w x, pay v w x = gate (v x) (w x)) :
    (iprop(holds c a (stage A B o) ∗ holds c b B) : sProp (MT nD τ sig Ix (Elt F) Name U Lvl))
      ⊢ iprop((iprop(holds c a (stage A B (o + 16)) ∗ holds c b B) -∗ wp frame (wpE defs 𝒱 c bd) Set.univ (k ⟨⟩) Q)
          -∗ wp frame (wpE defs 𝒱 c bd) Set.univ
            (.op (.load a (Rect.unit (s := Row n) off (Row 16).size inb).toLoadRect ha) fun v =>
              .op (.load b (Rect.unit (s := Row n) off (Row 16).size inb).toLoadRect hb) fun w =>
              .op (.load a (Rect.unit (s := Row n) off (Row 16).size inb).toLoadRect ha') fun _ =>
              .op (.store a (Rect.unit (s := Row n) off (Row 16).size inb) (pay v w) Finset.univ hx hm) k) Q) := by
  unfold holds
  iintro ⟨⟨%f, %hf, Ha⟩, ⟨%g, %hg, Hb⟩⟩ Hk
  iapply (wp_load 𝒱 c bd Set.univ (m := a) (S := Finset.univ) (Finset.subset_univ _)) $$ Ha; iintro Ha
  iapply (wp_load 𝒱 c bd Set.univ (m := b) (S := Finset.univ) (Finset.subset_univ _)) $$ Hb; iintro Hb
  iapply (wp_load 𝒱 c bd Set.univ (m := a) (S := Finset.univ) (Finset.subset_univ _)) $$ Ha; iintro Ha
  iapply (wp_store 𝒱 c bd Set.univ (m := a) (r := Rect.unit (s := Row n) off (Row 16).size inb) (Mk := Finset.univ) (S := Finset.univ)
    (Finset.subset_univ _)) $$ Ha; iintro Ha
  iapply Hk
  isplitl [Ha]
  · iexists _
    isplitr
    · ipureintro
      exact stage_step a.view b.view hoff inb pay hpay A B f g hf hg
    · iexact Ha
  · iexists g
    isplitr
    · ipureintro; exact hg
    · iexact Hb

/-- A copy waited for at once on its own counter: the destination's part holds what the source's part reads, the source and the counter are as before. -/
theorem wp_copy [Infinite Name] [CountersIn U] [(countersEmb : UEmb Counters (MT nD τ sig Ix (Elt F) Name U Lvl)).LandsIn upEmb]
    {sp sp' : Space} {s : Shape} {e : EltTy} {src : Memref sig c.2.kind sp s e} {dst : Memref sig c.2.kind sp' s e} {sem : DmaSem sig}
    {hsrc : src.view.WordExact} {hdst : dst.view.WordExact} {hsem : DmaTarget.Typed (nD := nD) sp (.dma sem) (.here dst)}
    {hsrc' : src.view.WordExact} {hdst' : dst.view.WordExact}
    {k : PUnit → Prog (TpuEff nD τ sig (Elt F) Λ c.2) α} {q : PosShare TreeShare} {fs : Buf (Elt F) (src.view.loc c)}
    {Sd : Finset (Idx (dst.view.loc c))} {fd : Buf (Elt F) (dst.view.loc c)} (ι : Ix) (O : CellTallies nD τ sig Ix) (W : Waits sig Ix)
    (h0 : 0 < s.numel) (hSd : dst.view.set ⊆ Sd) :
    iprop(Transfers.MayWaits c ι O ∗ (src.view.loc c ↦[src.view.set]{q} fs) ∗ (dst.view.loc c ↦[Sd]{fullShare} fd) ∗ semVal (c, .dma sem) 0 ∗ duty c ι O W)
      ⊢ iprop((iprop((src.view.loc c ↦[src.view.set]{q} fs)
              ∗ (dst.view.loc c ↦[Sd]{fullShare} dst.view.write (Elt F) fd (src.view.read (Elt F) fs) Finset.univ)
              ∗ semVal (c, .dma sem) 0 ∗ duty c ι O W) -∗ wp frame (wpE defs 𝒱 c bd) Set.univ (k ⟨⟩) Q)
          -∗ wp frame (wpE defs 𝒱 c bd) Set.univ
            (.op (.enqueueDma src (.here dst) (.dma sem) hsrc hdst hsem) fun _ => .op (.waitDma2 sem src dst hsrc' hdst') k) Q) := by
  unfold duty
  iintro ⟨#Hmw, Hs, Hd, Hv, %W', %hW', HO⟩ Hk
  iapply (Transfers.wp_dmaLocal countersEmb 𝒱 c bd (src := src) (dst := dst) (sm := .dma sem) (via := .same) (fs := fs) (fd := fd) ι _ rfl (View.amount_pos _ _ h0) hSd) $$ [Hs Hd Hv]
  · isplitl [Hs]; · iexact Hs
    isplitl [Hd] <;> iassumption
  iintro HF
  iapply (Transfers.wp_waitLocalO countersEmb 𝒱 c bd (srcw := src) (dstw := dst) ι rfl) $$ [HF HO]
  · isplitl [HF]; · iexact HF
    isplitl [HO]; · iexact HO
    iapply (Transfers.MayWaits.elim (SemLoc.dma sem)); iexact Hmw
  iintro ⟨⟨Hd, Hs⟩, Hv, HO⟩
  iapply Hk
  isplitl [Hs]; · iexact Hs
  isplitl [Hd]; · iexact Hd
  isplitl [Hv]; · iexact Hv
  iexists _
  isplitr
  rotate_left
  · iexact HO
  · ipureintro
    intro p hp
    rcases Finset.mem_insert.mp hp with hp | hp
    · exact .inr (hp ▸ rfl)
    · exact hW' p hp

end Moves

end Cert.Proof.Dropout
-- ==== Proof.KernelIdealTile.lean ====
/-
  What one tile of `KernelIdeal`'s kernel does: it is handed its own part of `x` and of `r` and of the result, and gives
  them back with every element of its part of the result gated. A tile's part is its block of 8384 elements; the
  first tile's part also has the 147 elements that the blocks leave over.
-/
module

public import proofs.«01_k».proof.Defs
public import Idealize.ShloMosaic.Lib.Pipeline.Value
public import proofs.«01_k».proof.Proof.Steps
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen
open Cert.Proof.Dropout

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program and its resources -/

/-- The names the launch is stated with: the program's calls, the launch, what every call runs, and no measures. -/
abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The ghost state: the handshakes' rounds beside the copies' counters. -/
abbrev UH : Type := URounds (GSem nD τ sig) ℕ
abbrev UU : Type := UH × Counters

local notation "𝕄" => MT nD τ sig (HIx 1) (Elt F) ℕ UU ℕ

variable (m : (ℓ : Loc nD τ sig) → Buf (Elt F) ℓ)

/-- `x`, `r` and the result as locations of device `d`. -/
abbrev xLoc (d : Dev nD) : Loc nD τ sig := (SparseCore.T d).loc main_arg1
abbrev rLoc (d : Dev nD) : Loc nD τ sig := (SparseCore.T d).loc main_arg2
abbrev oLoc (d : Dev nD) : Loc nD τ sig := (SparseCore.T d).loc main_v0

/-- `x`, `r` and the result as a tile names them, and a tile's four scratches. -/
abbrev xV : Memref sig .scVector .hbm S268435 .f32 := Memref.whole main_arg1_scv
abbrev rV : Memref sig .scVector .hbm S268435 .f32 := Memref.whole main_arg2_scv
abbrev oV : Memref sig .scVector .hbm S268435 .f32 := Memref.whole main_v0_scv
abbrev s0 : Memref sig .scVector .vmem S8384 .f32 := Memref.whole cc0_scratch0
abbrev s1 : Memref sig .scVector .vmem S8384 .f32 := Memref.whole cc0_scratch1
abbrev s2 : Memref sig .scVector .vmem S160 .f32 := Memref.whole cc0_scratch2
abbrev s3 : Memref sig .scVector .vmem S160 .f32 := Memref.whole cc0_scratch3

/-! ## A tile's part -/

/-- The tile's block. -/
abbrev blkR (L : grid0.Coords) : Rect S268435 := Rect.unit (s := S268435) (k0_off1 L) S8384.size (k0_off1_inb L)
/-- The elements that the blocks leave over. -/
abbrev tlR : Rect S268435 := Rect.unit (s := S268435) ![268288] S147.size inb_S268435_S147_268288
/-- The lanes of a short scratch that hold them. -/
abbrev ptR : Rect S160 := Rect.unit (s := S160) ![0] S147.size inb_S160_S147_0

/-- The elements of the tile's block. -/
abbrev blk (L : grid0.Coords) : Finset S268435.Idx := (blkR L).set
/-- The tile is the first of the first core. -/
def First (L : grid0.Coords) : Prop := (L 0).val = 0 ∧ (L 1).val = 0
instance (L : grid0.Coords) : Decidable (First L) := by unfold First; infer_instance
/-- The left-over elements, for the first tile only. -/
def tl (L : grid0.Coords) : Finset S268435.Idx := if First L then tlR.set else ∅

/-- The first tile has the left-over elements, -/
theorem tl_first {L : grid0.Coords} (h : First L) : tl L = tlR.set := if_pos h
/-- and no other tile has any. -/
theorem tl_other {L : grid0.Coords} (h : ¬ First L) : tl L = ∅ := if_neg h

variable [FloatOps F]

/-- The result: every element of `x` gated by that of `r`. -/
def out (d : Dev nD) : Buf (Elt F) (oLoc d) := fun j => gate (F := F) (m (xLoc d) j) (m (rLoc d) j)

section Tile

variable (d : Dev nD) (L : grid0.Coords)

/-- The tile's core and subcore. -/
abbrev cV (L : grid0.Coords) : Fin τ.nSC := (L 0).castLE hcore0
abbrev jV (L : grid0.Coords) : Fin τ.nSub := (L 1).castLE hsub0

/-- The tile's block of `x` and of `r`. -/
def X : S8384.Idx → F .f32 := fun y => m (xLoc d) ((blkR L).emb y)
def R : S8384.Idx → F .f32 := fun y => m (rLoc d) ((blkR L).emb y)

/-- The left-over elements of the three arrays, the result's being those of `f`. -/
def left (f : Buf (Elt F) (oLoc d)) : sProp 𝕄 :=
  iprop((xLoc d ↦[tl L]{fullShare} m (xLoc d)) ∗ (rLoc d ↦[tl L]{fullShare} m (rLoc d)) ∗ (oLoc d ↦[tl L]{fullShare} f))

/-- The tile's part of the three arrays, the result's elements being those of `f`. -/
def part (f : Buf (Elt F) (oLoc d)) : sProp 𝕄 :=
  iprop(((xLoc d ↦[blk L]{fullShare} m (xLoc d)) ∗ (rLoc d ↦[blk L]{fullShare} m (rLoc d)) ∗ (oLoc d ↦[blk L]{fullShare} f)) ∗ left m d L f)

omit [FloatOps F] in
/-- A rectangle of `x` as the tile slices it is that rectangle of the array. -/
theorem pts_x (r : Rect S268435) (h : ∀ a, r.stride a = 1) (f : Buf (Elt F) (xLoc d)) :
    (((xV : Memref sig .scVector .hbm S268435 .f32).slice r h).view.loc (V d (cV L) (jV L)) ↦[(xV.slice r h).view.set]{fullShare} f : sProp 𝕄)
      = (xLoc d ↦[r.set]{fullShare} f) := by
  rw [show ((xV : Memref sig .scVector .hbm S268435 .f32).slice r h).view.set = r.set from
    (View.set_slice _ r).trans Finset.map_refl]

omit [FloatOps F] in
/-- A rectangle of `r`, likewise. -/
theorem pts_r (r : Rect S268435) (h : ∀ a, r.stride a = 1) (f : Buf (Elt F) (rLoc d)) :
    (((rV : Memref sig .scVector .hbm S268435 .f32).slice r h).view.loc (V d (cV L) (jV L)) ↦[(rV.slice r h).view.set]{fullShare} f : sProp 𝕄)
      = (rLoc d ↦[r.set]{fullShare} f) := by
  rw [show ((rV : Memref sig .scVector .hbm S268435 .f32).slice r h).view.set = r.set from
    (View.set_slice _ r).trans Finset.map_refl]

omit [FloatOps F] in
/-- A rectangle of the result, likewise. -/
theorem pts_o (r : Rect S268435) (h : ∀ a, r.stride a = 1) (f : Buf (Elt F) (oLoc d)) :
    (((oV : Memref sig .scVector .hbm S268435 .f32).slice r h).view.loc (V d (cV L) (jV L)) ↦[(oV.slice r h).view.set]{fullShare} f : sProp 𝕄)
      = (oLoc d ↦[r.set]{fullShare} f) := by
  rw [show ((oV : Memref sig .scVector .hbm S268435 .f32).slice r h).view.set = r.set from
    (View.set_slice _ r).trans Finset.map_refl]

/-- A rectangle of the result, written with the gated elements, holds the result there. -/
theorem written (r : Rect S268435) (h : ∀ a, r.stride a = 1) (f : Buf (Elt F) (oLoc d)) (w : r.shape.Idx → F .f32)
    (hw : ∀ y, w y = gate (F := F) (m (xLoc d) (r.emb y)) (m (rLoc d) (r.emb y))) :
    (((oV : Memref sig .scVector .hbm S268435 .f32).slice r h).view.loc (V d (cV L) (jV L)) ↦[(oV.slice r h).view.set]{fullShare}
        (oV.slice r h).view.write (Elt F) f w Finset.univ : sProp 𝕄)
      = (oLoc d ↦[r.set]{fullShare} out m d) := by
  rw [pts_o]
  refine pointsTo_congr fun i hi => ?_
  rw [← Rect.map_emb_univ] at hi
  obtain ⟨y, -, rfl⟩ := Finset.mem_map.mp hi
  exact (View.write_emb_of_mem (v := (oV.slice r h).view) f w (Finset.mem_univ y)).trans (hw y)

omit [FloatOps F] in
/-- The block's scratch as a copy's source is the whole scratch. -/
theorem pts_s0 (f : Buf (Elt F) ((V d (cV L) (jV L)).loc cc0_scratch0)) :
    ((s0 : Memref sig .scVector .vmem S8384 .f32).view.loc (V d (cV L) (jV L)) ↦[(s0 : Memref sig .scVector .vmem S8384 .f32).view.set]{fullShare} f : sProp 𝕄)
      = ((s0 : Memref sig .scVector .vmem S8384 .f32).view.loc (V d (cV L) (jV L)) ↦{fullShare} f) := by
  simp only [Memref.view_whole, View.set_whole]

/-! ## A tile's semaphores and scratches -/

abbrev cell (d : Dev nD) (L : grid0.Coords) (s : DmaSems sig S_) : GSem nD τ sig := (V d (cV L) (jV L), .dma s.sem)

/-- The cells of the six copies. -/
def copyCells : Finset (GSem nD τ sig) :=
  {cell d L cc0_scoped0, cell d L cc0_scoped1, cell d L cc0_scoped2, cell d L cc0_scoped3, cell d L cc0_scoped4, cell d L cc0_scoped5}

/-- The tile's other counters, at zero. -/
def otherSems : sProp 𝕄 := bigSep (ownCells (V d (cV L) (jV L)) \ copyCells d L) fun g => semVal g 0

/-- The tile's other buffers, at any contents. -/
def otherBufs : sProp 𝕄 :=
  bigSep (ownRefs (τ := τ) (.scVector (cV L) (jV L)) \ ({cc0_scratch0, cc0_scratch1, cc0_scratch2, cc0_scratch3} : Finset (Ref sig .scVector)).image
    (Proc.scVector (cV L) (jV L)).devRef) fun b => iprop(∃ f, ((d, b) : Loc nD τ sig) ↦{fullShare} f)

omit [FloatOps F] in
/-- The six copies' counters are among the tile's own. -/
theorem ownSems0_V :
    (ownSems0 (V d (cV L) (jV L)) : sProp 𝕄)
      = iprop((semVal (cell d L cc0_scoped0) 0 ∗ semVal (cell d L cc0_scoped1) 0 ∗ semVal (cell d L cc0_scoped2) 0 ∗ semVal (cell d L cc0_scoped3) 0
            ∗ semVal (cell d L cc0_scoped4) 0 ∗ semVal (cell d L cc0_scoped5) 0)
          ∗ otherSems d L) := by
  have hmem : ∀ s : DmaSems sig S_, (SemLoc.dma s.sem : SemLoc sig).isScoped .scVector = true → cell d L s ∈ ownCells (V d (cV L) (jV L)) :=
    fun s hs => (mem_ownCells (g := cell d L s)).mpr ⟨rfl, hs⟩
  have hne : ∀ s t : DmaSems sig S_, s.sem ≠ t.sem → cell d L s ≠ cell d L t := fun s t h e => h (by injection (Prod.ext_iff.mp e).2)
  unfold SparseCore.Cfg.ownSems0 otherSems
  rw [SparseCore.bigSep_sdiff_split' (t := copyCells d L) (by
    intro g hg
    simp only [copyCells, Finset.mem_insert, Finset.mem_singleton] at hg
    rcases hg with rfl | rfl | rfl | rfl | rfl | rfl <;> exact hmem _ (by decide))]
  congr 1
  unfold copyCells
  rw [SparseCore.bigSep_insert', SparseCore.bigSep_insert', SparseCore.bigSep_insert', SparseCore.bigSep_insert', SparseCore.bigSep_insert',
    bigSep_singleton]
  all_goals
    simp only [Finset.mem_insert, Finset.mem_singleton, not_or]
    repeat' apply And.intro
    all_goals exact hne _ _ (by decide)

omit [FloatOps F] in
/-- The four scratches are among the tile's own buffers. -/
theorem ownBufs_V :
    (ownBufs (V d (cV L) (jV L)) : sProp 𝕄)
      = iprop(((∃ f, (V d (cV L) (jV L)).loc cc0_scratch0 ↦{fullShare} f) ∗ (∃ f, (V d (cV L) (jV L)).loc cc0_scratch1 ↦{fullShare} f)
            ∗ (∃ f, (V d (cV L) (jV L)).loc cc0_scratch2 ↦{fullShare} f) ∗ (∃ f, (V d (cV L) (jV L)).loc cc0_scratch3 ↦{fullShare} f))
          ∗ otherBufs d L) := by
  unfold SparseCore.Cfg.ownBufs otherBufs
  refine (SparseCore.bigSep_sdiff_split' (t := ({cc0_scratch0, cc0_scratch1, cc0_scratch2, cc0_scratch3} : Finset (Ref sig .scVector)).image
    (Proc.scVector (cV L) (jV L)).devRef) ?_).trans ?_
  · intro b hb
    obtain ⟨a, ha, rfl⟩ := Finset.mem_image.mp hb
    simp only [Finset.mem_insert, Finset.mem_singleton] at ha
    rcases ha with rfl | rfl | rfl | rfl <;> exact SparseCore.Cfg.mem_ownRefs_of_owner (p := Proc.scVector (cV L) (jV L)) rfl
  · congr 1
    rw [SparseCore.bigSep_image_of_injOn (Proc.devRef_injective _).injOn,
      SparseCore.bigSep_insert' (show (cc0_scratch0 : Ref sig .scVector) ∉ ({cc0_scratch1, cc0_scratch2, cc0_scratch3} : Finset (Ref sig .scVector)) by decide),
      SparseCore.bigSep_insert' (show (cc0_scratch1 : Ref sig .scVector) ∉ ({cc0_scratch2, cc0_scratch3} : Finset (Ref sig .scVector)) by decide),
      SparseCore.bigSep_insert' (show (cc0_scratch2 : Ref sig .scVector) ∉ ({cc0_scratch3} : Finset (Ref sig .scVector)) by decide), bigSep_singleton]

/-- The number of the loop's trips. -/
theorem trips_eq : k0_t1_loop.trips = 524 := by decide +kernel

omit [FloatOps F] in
/-- The test that the left-over elements are guarded by holds for the first tile only. -/
theorem first_iff : Scalar.cmpi .ne (Scalar.extui (Scalar.cmpi .eq (Scalar.addi (Scalar.muli (BitVec.ofNat 32 (L 1).val) 2#32) (BitVec.ofNat 32 (L 0).val)) 0#32) : BitVec 32) 0#32 = 1#1 ↔ First L := by
  unfold First
  have h0 : (L 0).val < 2 := (L 0).isLt
  have h1 : (L 1).val < 16 := (L 1).isLt
  generalize (L 0).val = a at *
  generalize (L 1).val = b at *
  interval_cases a <;> interval_cases b <;> decide +kernel

/-- A stored value is the gated one, lane by lane. -/
theorem pay1_apply (v w : S16.Idx → F .f32) (x : S16.Idx) : k0_pay1 v w x = gate (v x) (w x) := by
  unfold k0_pay1
  simp only [shapeCast_self]
  rfl

/-- The loop's trips gate the block sixteen lanes at a time. -/
def inv (L : grid0.Coords) (A B : S8384.Idx → F .f32) (t : ℕ) (_ : PUnit) : sProp 𝕄 :=
  iprop(holds (V d (cV L) (jV L)) s0 (stage A B (16 * t)) ∗ holds (V d (cV L) (jV L)) s1 B)

/-- One trip gates the next sixteen lanes. -/
theorem trip (A B : S8384.Idx → F .f32) (t : Fin k0_t1_loop.trips) (acc : PUnit) :
    inv d L A B t.val acc ⊢ wp frame (wpE (defs₀ (F := F)) 𝒱₀ (V d (cV L) (jV L)) none) Set.univ
      (k0_t1_body L xV (Memref.isWhole_whole _) rV (Memref.isWhole_whole _) oV (Memref.isWhole_whole _)
            s0 (Memref.isWhole_whole _) s1 (Memref.isWhole_whole _) s2 (Memref.isWhole_whole _) s3 (Memref.isWhole_whole _)
            cc0_scoped0 cc0_scoped1 cc0_scoped2 cc0_scoped3 cc0_scoped4 cc0_scoped5 t acc)
      (inv d L A B (t.val + 1)) := by
  unfold inv k0_t1_body
  simp only [Prog.lift, Prog.bind_op, Prog.bind_ret, Prog.pure_eq_ret]
  iintro ⟨Hs0, Hs1⟩
  iapply (wp_lanes 𝒱₀ (V d (cV L) (jV L)) none (n := 8384) (a := s0) (b := s1) (pay := k0_pay1) A B (16 * t.val) (k0_off2_eq t) pay1_apply) $$ [Hs0 Hs1]
  · isplitl [Hs0] <;> iassumption
  iintro ⟨Hs0, Hs1⟩
  rw [wp_ret]; imodintro
  isplitl [Hs0] <;> iassumption

omit [FloatOps F] in
/-- The short scratches as they are, nothing gated yet. -/
theorem start (f : Buf (Elt F) ((V d (cV L) (jV L)).loc cc0_scratch2)) (g : Buf (Elt F) ((V d (cV L) (jV L)).loc cc0_scratch3)) [FloatOps F] :
    iprop(((V d (cV L) (jV L)).loc cc0_scratch2 ↦{fullShare} f) ∗ ((V d (cV L) (jV L)).loc cc0_scratch3 ↦{fullShare} g))
      ⊢ (iprop(holds (V d (cV L) (jV L)) s2 (stage (n := 160) (s2.view.read (Elt F) f) (s3.view.read (Elt F) g) 0)
          ∗ holds (V d (cV L) (jV L)) s3 (s3.view.read (Elt F) g)) : sProp 𝕄) := by
  rw [stage_zero]
  unfold holds
  iintro ⟨Hf, Hg⟩
  isplitl [Hf]
  · iexists _
    isplitr
    rotate_left
    · iexact Hf
    · ipureintro; rfl
  · iexists _
    isplitr
    rotate_left
    · iexact Hg
    · ipureintro; rfl

/-- The tile's end: its part done, its scratches at any contents, its counters at zero. -/
def atEnd (O : CellTallies nD τ sig (HIx 1)) (W : Waits sig (HIx 1)) : sProp 𝕄 :=
  iprop(part m d L (out m d)
        ∗ ((∃ f, (V d (cV L) (jV L)).loc cc0_scratch0 ↦{fullShare} f) ∗ (∃ f, (V d (cV L) (jV L)).loc cc0_scratch1 ↦{fullShare} f)
            ∗ (∃ f, (V d (cV L) (jV L)).loc cc0_scratch2 ↦{fullShare} f) ∗ (∃ f, (V d (cV L) (jV L)).loc cc0_scratch3 ↦{fullShare} f))
        ∗ otherBufs d L
        ∗ (semVal (cell d L cc0_scoped0) 0 ∗ semVal (cell d L cc0_scoped1) 0 ∗ semVal (cell d L cc0_scoped2) 0 ∗ semVal (cell d L cc0_scoped3) 0
            ∗ semVal (cell d L cc0_scoped4) 0 ∗ semVal (cell d L cc0_scoped5) 0)
        ∗ otherSems d L ∗ duty (V d (cV L) (jV L)) none O W)

/-- At its end a tile has its own buffers and its own counters back. -/
theorem post (O : CellTallies nD τ sig (HIx 1)) (W : Waits sig (HIx 1)) :
    atEnd m d L O W
      ⊢ (iprop(part m d L (out m d) ∗ ownBufs (V d (cV L) (jV L)) ∗ ownSems0 (V d (cV L) (jV L))
            ∗ ∃ W', ⌜∀ p ∈ W', p ∈ W ∨ p.2 = none⌝ ∗ owes (V d (cV L) (jV L)) O W') : sProp 𝕄) := by
  rw [ownSems0_V, ownBufs_V]
  unfold atEnd duty
  iintro ⟨Hp, Hs, Hb, Hm, Ho, HO⟩
  isplitl [Hp]; · iexact Hp
  isplitl [Hs Hb]; · isplitl [Hs] <;> iassumption
  isplitl [Hm Ho]; · isplitl [Hm] <;> iassumption
  iexact HO

/-- The short scratch after the ten steps: its first 147 lanes are the left-over elements, gated. -/
theorem left_value (f2 : Buf (Elt F) ((V d (cV L) (jV L)).loc cc0_scratch2)) (f3 : Buf (Elt F) ((V d (cV L) (jV L)).loc cc0_scratch3))
    (g : Buf (Elt F) ((V d (cV L) (jV L)).loc cc0_scratch2))
    (hg : (s2 : Memref sig .scVector .vmem S160 .f32).view.read (Elt F) g
      = stage (n := 160)
        ((s2 : Memref sig .scVector .vmem S160 .f32).view.read (Elt F) (((s2 : Memref sig .scVector .vmem S160 .f32).slice ptR (fun _ => rfl)).view.write (Elt F) f2
          (((xV : Memref sig .scVector .hbm S268435 .f32).slice tlR (fun _ => rfl)).view.read (Elt F) (m (xLoc d))) Finset.univ))
        ((s3 : Memref sig .scVector .vmem S160 .f32).view.read (Elt F) (((s3 : Memref sig .scVector .vmem S160 .f32).slice ptR (fun _ => rfl)).view.write (Elt F) f3
          (((rV : Memref sig .scVector .hbm S268435 .f32).slice tlR (fun _ => rfl)).view.read (Elt F) (m (rLoc d))) Finset.univ)) 160)
    (y : S147.Idx) :
    ((s2 : Memref sig .scVector .vmem S160 .f32).slice ptR (fun _ => rfl)).view.read (Elt F) g y
      = gate (F := F) (m (xLoc d) (tlR.emb y)) (m (rLoc d) (tlR.emb y)) := by
  show (s2 : Memref sig .scVector .vmem S160 .f32).view.read (Elt F) g (ptR.emb y) = _
  rw [hg, stage_of_lt (n := 160) _ _ (show ((ptR.emb y : S160.Idx) 0).val < 160 from (ptR.emb y 0).isLt)]
  congr 1
  · exact View.read_slice_write_emb (v := (s2 : Memref sig .scVector .vmem S160 .f32).view) ptR _ _ (Finset.mem_univ y)
  · exact View.read_slice_write_emb (v := (s3 : Memref sig .scVector .vmem S160 .f32).view) ptR _ _ (Finset.mem_univ y)

set_option maxRecDepth 65536 in
/-- One tile runs from its part as launched to its end. -/
theorem tile_run (hF : (K (F := F)).Facts) (O : CellTallies nD τ sig (HIx 1)) (W : Waits sig (HIx 1)) (hO : ∀ g, O g none = 0) :
    iprop(levAts (K (F := F)).L (K (F := F)).lev ∗ iprop(emp) ∗ part m d L (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__dropout_body L xV (Memref.isWhole_whole _) rV (Memref.isWhole_whole _) oV (Memref.isWhole_whole _)
            s0 (Memref.isWhole_whole _) s1 (Memref.isWhole_whole _) s2 (Memref.isWhole_whole _) s3 (Memref.isWhole_whole _)
            cc0_scoped0 cc0_scoped1 cc0_scoped2 cc0_scoped3 cc0_scoped4 cc0_scoped5)
          fun _ => atEnd m d L O W := by
  simp only [cc0__dropout_body_eq_skeleton]; unfold cc0__dropout_body_skel
  simp only [Prog.lift, Prog.bind_op, Prog.bind_ret, Prog.pure_eq_ret]
  rw [(K (F := F)).scopedBufs_V hF d (cV L) (jV L), SparseCore.Cfg.scopedSems0_V (Val := Elt F) d (cV L) (jV L)]
  rw [ownSems0_V, ownBufs_V]
  iintro ⟨#Hlv, -, Hpart, ⟨⟨⟨%f0, Hs0⟩, ⟨%f1, Hs1⟩, ⟨%f2, Hs2⟩, ⟨%f3, Hs3⟩⟩, Hbufs⟩, ⟨⟨Hm0, Hm1, Hm2, Hm3, Hm4, Hm5⟩, Hsems⟩, HO⟩
  unfold part
  icases Hpart with ⟨⟨Hx, Hr, Ho⟩, Htl⟩
  ihave #Hmw := ((K (F := F)).mayWaits_none (thr := V d (cV L) (jV L)) hO) $$ Hlv
  ihave HO : duty (V d (cV L) (jV L)) none O W $$ [HO]
  · unfold duty; iexists W; isplitr; · ipureintro; exact fun p hp => .inl hp
    iexact HO
  -- the block of `x`
  ihave Hx := (Entails.of_eq (pts_x (F := F) d L (blkR L) (fun _ => rfl) _).symm) $$ Hx
  iapply (wp_copy 𝒱₀ (V d (cV L) (jV L)) none (dst := s0) (fd := f0) none O W (by decide) (Finset.subset_univ _)) $$ [Hx Hs0 Hm0 HO]
  · isplitr; · iexact Hmw
    isplitl [Hx]; · iexact Hx
    isplitl [Hs0]; · iexact Hs0
    isplitl [Hm0] <;> iassumption
  iintro ⟨Hx, Hs0, Hm0, HO⟩
  -- the block of `r`
  ihave Hr := (Entails.of_eq (pts_r (F := F) d L (blkR L) (fun _ => rfl) _).symm) $$ Hr
  iapply (wp_copy 𝒱₀ (V d (cV L) (jV L)) none (dst := s1) (fd := f1) none O W (by decide) (Finset.subset_univ _)) $$ [Hr Hs1 Hm1 HO]
  · isplitr; · iexact Hmw
    isplitl [Hr]; · iexact Hr
    isplitl [Hs1]; · iexact Hs1
    isplitl [Hm1] <;> iassumption
  iintro ⟨Hr, Hs1, Hm1, HO⟩
  -- the loop
  iapply (Scf.wp_for_bind Idealize.ShloMosaic.frame _ Set.univ _ _ _ k0_t1_ok _ _ (inv d L (X m d L) (R m d L)) (trip d L _ _)) $$ [Hs0 Hs1]
  · unfold inv holds
    isplitl [Hs0]
    · iexists _
      isplitr
      rotate_left
      · iexact Hs0
      · ipureintro
        rw [stage_zero]
        exact View.read_write_univ _ _
    · iexists _
      isplitr
      rotate_left
      · iexact Hs1
      · ipureintro
        exact View.read_write_univ _ _
  iintro %_ HI
  unfold inv
  unfold holds
  icases HI with ⟨⟨%g0, %hg0, Hs0⟩, ⟨%g1, -, Hs1⟩⟩
  -- the block of the result
  ihave Ho := (Entails.of_eq (pts_o (F := F) d L (blkR L) (fun _ => rfl) _).symm) $$ Ho
  ihave Hs0 := (Entails.of_eq (pts_s0 (F := F) d L _).symm) $$ Hs0
  iapply (wp_copy 𝒱₀ (V d (cV L) (jV L)) none (src := s0) none O W (by decide) (Finset.Subset.refl _)) $$ [Hs0 Ho Hm2 HO]
  · isplitr; · iexact Hmw
    isplitl [Hs0]; · iexact Hs0
    isplitl [Ho]; · iexact Ho
    isplitl [Hm2] <;> iassumption
  iintro ⟨Hs0, Ho, Hm2, HO⟩
  ihave Ho := (Entails.of_eq (written m d L (blkR L) (fun _ => rfl) _ _ (fun y => by
    rw [hg0]
    exact stage_of_lt (n := 8384) _ _ (by rw [show Scf.trips k0_t1_loop.lb k0_t1_loop.ub k0_t1_loop.st = 524 from trips_eq]; exact (y 0).isLt)))) $$ Ho
  ihave Hs0 := (Entails.of_eq (pts_s0 (F := F) d L _)) $$ Hs0
  ihave Hx := (Entails.of_eq (pts_x (F := F) d L (blkR L) (fun _ => rfl) _)) $$ Hx
  ihave Hr := (Entails.of_eq (pts_r (F := F) d L (blkR L) (fun _ => rfl) _)) $$ Hr
  by_cases hfirst : First L
  · rw [dif_pos ((first_iff L).mpr hfirst)]
    simp only [k0_part1_eq_skeleton, k0_part2_eq_skeleton, k0_part3_eq_skeleton, k0_part4_eq_skeleton]
    unfold k0_part1_skel k0_part2_skel k0_part3_skel k0_part4_skel
    simp only [Prog.lift, Prog.bind_op, Prog.bind_ret, Prog.pure_eq_ret]
    unfold left
    rw [tl_first hfirst]
    icases Htl with ⟨Hx', Hr', Ho'⟩
    -- the left-over elements of `x` and of `r`
    ihave Hx' := (Entails.of_eq (pts_x (F := F) d L tlR (fun _ => rfl) _).symm) $$ Hx'
    iapply (wp_copy 𝒱₀ (V d (cV L) (jV L)) none (dst := s2.slice ptR (fun _ => rfl)) (fd := f2) none O W (by decide) (Finset.subset_univ _)) $$ [Hx' Hs2 Hm3 HO]
    · isplitr; · iexact Hmw
      isplitl [Hx']; · iexact Hx'
      isplitl [Hs2]; · iexact Hs2
      isplitl [Hm3] <;> iassumption
    iintro ⟨Hx', Hs2, Hm3, HO⟩
    ihave Hr' := (Entails.of_eq (pts_r (F := F) d L tlR (fun _ => rfl) _).symm) $$ Hr'
    iapply (wp_copy 𝒱₀ (V d (cV L) (jV L)) none (dst := s3.slice ptR (fun _ => rfl)) (fd := f3) none O W (by decide) (Finset.subset_univ _)) $$ [Hr' Hs3 Hm4 HO]
    · isplitr; · iexact Hmw
      isplitl [Hr']; · iexact Hr'
      isplitl [Hs3]; · iexact Hs3
      isplitl [Hm4] <;> iassumption
    iintro ⟨Hr', Hs3, Hm4, HO⟩
    ihave H := (start d L _ _) $$ [Hs2 Hs3]
    · isplitl [Hs2] <;> iassumption
    -- the ten steps
    iterate 10
      iapply (wp_lanes 𝒱₀ (V d (cV L) (jV L)) none (n := 160) (a := s2) (b := s3) (pay := k0_pay1) _ _ _ rfl pay1_apply) $$ H
      iintro H
    unfold holds
    icases H with ⟨⟨%g2, %hg2, Hs2⟩, ⟨%g3, -, Hs3⟩⟩
    -- the left-over elements of the result
    ihave Hs2 := (BIBase.BiEntails.mp (pointsTo_split_subset (Finset.subset_univ ((s2 : Memref sig .scVector .vmem S160 .f32).slice ptR (fun _ => rfl)).view.set))) $$ Hs2
    icases Hs2 with ⟨Hs2, Hs2'⟩
    ihave Ho' := (Entails.of_eq (pts_o (F := F) d L tlR (fun _ => rfl) _).symm) $$ Ho'
    iapply (wp_copy 𝒱₀ (V d (cV L) (jV L)) none (src := s2.slice ptR (fun _ => rfl)) none O W (by decide) (Finset.Subset.refl _)) $$ [Hs2 Ho' Hm5 HO]
    · isplitr; · iexact Hmw
      isplitl [Hs2]; · iexact Hs2
      isplitl [Ho']; · iexact Ho'
      isplitl [Hm5] <;> iassumption
    iintro ⟨Hs2, Ho', Hm5, HO⟩
    ihave Ho' := (Entails.of_eq (written m d L tlR (fun _ => rfl) _ _ (fun y => left_value m d L f2 f3 g2 hg2 y))) $$ Ho'
    ihave Hs2 := (BIBase.BiEntails.mpr (pointsTo_split_subset (ℓ := (V d (cV L) (jV L)).loc cc0_scratch2) (f := g2) (q := fullShare) (Finset.subset_univ ((s2 : Memref sig .scVector .vmem S160 .f32).slice ptR (fun _ => rfl)).view.set))) $$ [Hs2 Hs2']
    · isplitl [Hs2] <;> iassumption
    ihave Hx' := (Entails.of_eq (pts_x (F := F) d L tlR (fun _ => rfl) _)) $$ Hx'
    ihave Hr' := (Entails.of_eq (pts_r (F := F) d L tlR (fun _ => rfl) _)) $$ Hr'
    rw [wp_ret]
    imodintro
    unfold atEnd part
    isplitl [Hx Hr Ho Hx' Hr' Ho']
    · isplitl [Hx Hr Ho]
      · isplitl [Hx]; · iexact Hx
        isplitl [Hr] <;> iassumption
      · unfold left
        rw [tl_first hfirst]
        isplitl [Hx']; · iexact Hx'
        isplitl [Hr'] <;> iassumption
    isplitl [Hs0 Hs1 Hs2 Hs3]
    · isplitl [Hs0]; · iexists _; iexact Hs0
      isplitl [Hs1]; · iexists _; iexact Hs1
      isplitl [Hs2]; · iexists _; iexact Hs2
      iexists _; iexact Hs3
    isplitl [Hbufs]; · iexact Hbufs
    isplitl [Hm0 Hm1 Hm2 Hm3 Hm4 Hm5]
    · isplitl [Hm0]; · iexact Hm0
      isplitl [Hm1]; · iexact Hm1
      isplitl [Hm2]; · iexact Hm2
      isplitl [Hm3]; · iexact Hm3
      isplitl [Hm4] <;> iassumption
    isplitl [Hsems] <;> iassumption
  · rw [dif_neg (fun h => hfirst ((first_iff L).mp h))]
    simp only [Prog.bind_ret, wp_ret]
    unfold left
    rw [tl_other hfirst]
    icases Htl with ⟨Hx', Hr', Ho'⟩
    imodintro
    unfold atEnd part
    isplitl [Hx Hr Ho Hx' Hr' Ho']
    · isplitl [Hx Hr Ho]
      · isplitl [Hx]; · iexact Hx
        isplitl [Hr] <;> iassumption
      · unfold left
        rw [tl_other hfirst]
        isplitl [Hx']; · iexact Hx'
        isplitl [Hr']; · iexact Hr'
        iapply (Entails.of_eq (pointsTo_congr fun i hi => absurd hi (Finset.notMem_empty i)))
        iexact Ho'
    isplitl [Hs0 Hs1 Hs2 Hs3]
    · isplitl [Hs0]; · iexists _; iexact Hs0
      isplitl [Hs1]; · iexists _; iexact Hs1
      isplitl [Hs2]; · iexists _; iexact Hs2
      iexists _; iexact Hs3
    isplitl [Hbufs]; · iexact Hbufs
    isplitl [Hm0 Hm1 Hm2 Hm3 Hm4 Hm5]
    · isplitl [Hm0]; · iexact Hm0
      isplitl [Hm1]; · iexact Hm1
      isplitl [Hm2]; · iexact Hm2
      isplitl [Hm3]; · iexact Hm3
      isplitl [Hm4] <;> iassumption
    isplitl [Hsems] <;> iassumption

/-- One tile: its part of the result gated, everything else as it was. -/
theorem tile_body (hF : (K (F := F)).Facts) (O : CellTallies nD τ sig (HIx 1)) (W : Waits sig (HIx 1)) (hO : ∀ g, O g none = 0) :
    iprop(levAts (K (F := F)).L (K (F := F)).lev ∗ iprop(emp) ∗ part m d L (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__dropout_body L xV (Memref.isWhole_whole _) rV (Memref.isWhole_whole _) oV (Memref.isWhole_whole _)
            s0 (Memref.isWhole_whole _) s1 (Memref.isWhole_whole _) s2 (Memref.isWhole_whole _) s3 (Memref.isWhole_whole _)
            cc0_scoped0 cc0_scoped1 cc0_scoped2 cc0_scoped3 cc0_scoped4 cc0_scoped5)
          fun _ => iprop(part m d L (out m d) ∗ scopedBufs (V d (cV L) (jV L)) ∗ scopedSems0 (V d (cV L) (jV L))
            ∗ ∃ W', ⌜∀ p ∈ W', p ∈ W ∨ p.2 = none⌝ ∗ owes (V d (cV L) (jV L)) O W') := by
  refine BI.Entails.trans (tile_run m d L hF O W hO) (wp_mono _ _ _ fun _ => ?_)
  rw [(K (F := F)).scopedBufs_V hF d (cV L) (jV L), SparseCore.Cfg.scopedSems0_V (Val := Elt F) d (cV L) (jV L)]
  exact post m d L O W

end Tile

end Cert.Proof.KernelIdeal
-- ==== Proof.KernelIdealParts.lean ====
/-
  The tiles' parts make up the whole arrays: the 32 blocks are disjoint and cover the first 268288 elements, the
  first tile's left-over elements are the rest.
-/
module

public import proofs.«01_k».proof.Proof.KernelIdealTile

@[expose] public section

noncomputable section

namespace Cert.Proof.KernelIdeal

open Cert.KernelIdeal Cert.KernelIdeal.Gen
open Cert.Proof.Dropout

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The tile on subcore `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

/-- The tiles, by core and subcore. -/
abbrev Tiles : Type := Fin 2 × Fin 16
/-- A tile's coordinates in the kernel's grid. -/
abbrev tile (p : Tiles) : grid0.Coords := coordsV p.1 p.2

/-- An element of a tile's block. -/
theorem mem_blk (p : Tiles) (j : S268435.Idx) :
    j ∈ blk (tile p) ↔ 16768 * p.2.val + 8384 * p.1.val ≤ (j 0).val ∧ (j 0).val < 16768 * p.2.val + 8384 * p.1.val + 8384 := by
  refine Rect.mem_set_unit.trans ?_
  rw [k0_off1_eq]
  constructor
  · intro h; exact h 0
  · intro h a
    obtain rfl : a = 0 := Subsingleton.elim _ _
    exact h

/-- A left-over element: the first tile's only. -/
theorem mem_tl (p : Tiles) (j : S268435.Idx) : j ∈ tl (tile p) ↔ p = (0, 0) ∧ 268288 ≤ (j 0).val := by
  have hp : First (tile p) ↔ p = (0, 0) := by
    show (p.1.val = 0 ∧ p.2.val = 0) ↔ _
    rw [Prod.ext_iff, Fin.ext_iff, Fin.ext_iff]; rfl
  by_cases h : First (tile p)
  · rw [tl_first h]
    refine Rect.mem_set_unit.trans ⟨fun hj => ⟨hp.mp h, (hj 0).1⟩, fun hj a => ?_⟩
    obtain rfl : a = 0 := Subsingleton.elim _ _
    exact ⟨hj.2, (j 0).isLt⟩
  · rw [tl_other h]
    exact ⟨fun hj => absurd hj (Finset.notMem_empty j), fun hj => absurd (hp.mpr hj.1) h⟩

/-- No element is in two blocks. -/
theorem blk_disjoint : ∀ p ∈ (Finset.univ : Finset Tiles), ∀ q ∈ (Finset.univ : Finset Tiles), p ≠ q → Disjoint (blk (tile p)) (blk (tile q)) := by
  intro p _ q _ hpq
  refine Finset.disjoint_left.mpr fun j hp hq => hpq ?_
  have h1 := (mem_blk p j).mp hp
  have h2 := (mem_blk q j).mp hq
  have := p.1.isLt; have := q.1.isLt
  refine Prod.ext (Fin.ext ?_) (Fin.ext ?_) <;> omega

/-- No element is left over twice. -/
theorem tl_disjoint : ∀ p ∈ (Finset.univ : Finset Tiles), ∀ q ∈ (Finset.univ : Finset Tiles), p ≠ q → Disjoint (tl (tile p)) (tl (tile q)) := by
  intro p _ q _ hpq
  refine Finset.disjoint_left.mpr fun j hp hq => hpq ?_
  exact ((mem_tl p j).mp hp).1.trans ((mem_tl q j).mp hq).1.symm

/-- No element of a block is left over. -/
theorem blk_tl_disjoint :
    Disjoint ((Finset.univ : Finset Tiles).biUnion fun p => blk (tile p)) ((Finset.univ : Finset Tiles).biUnion fun p => tl (tile p)) := by
  refine Finset.disjoint_left.mpr fun j h1 h2 => ?_
  obtain ⟨p, -, hp⟩ := Finset.mem_biUnion.mp h1
  obtain ⟨q, -, hq⟩ := Finset.mem_biUnion.mp h2
  have h1 := (mem_blk p j).mp hp
  have h2 := ((mem_tl q j).mp hq).2
  have := p.1.isLt; have := p.2.isLt
  omega

/-- Every element is in a block or left over. -/
theorem parts_cover :
    ((Finset.univ : Finset Tiles).biUnion fun p => blk (tile p)) ∪ ((Finset.univ : Finset Tiles).biUnion fun p => tl (tile p)) = Finset.univ := by
  refine Finset.eq_univ_of_forall fun j => ?_
  by_cases h : (j 0).val < 268288
  · refine Finset.mem_union_left _ (Finset.mem_biUnion.mpr
      ⟨(⟨(j 0).val / 8384 % 2, by omega⟩, ⟨(j 0).val / 8384 / 2, by omega⟩), Finset.mem_univ _, (mem_blk _ j).mpr ?_⟩)
    dsimp only
    omega
  · exact Finset.mem_union_right _ (Finset.mem_biUnion.mpr ⟨(0, 0), Finset.mem_univ _, (mem_tl _ j).mpr ⟨rfl, by omega⟩⟩)

/-- An array is its blocks and its left-over elements. -/
theorem array_parts {ℓ : Loc nD τ sig} (f : Buf (Elt F) ℓ) (B L : Tiles → Finset (Idx ℓ))
    (hB : ∀ p ∈ (Finset.univ : Finset Tiles), ∀ q ∈ (Finset.univ : Finset Tiles), p ≠ q → Disjoint (B p) (B q))
    (hL : ∀ p ∈ (Finset.univ : Finset Tiles), ∀ q ∈ (Finset.univ : Finset Tiles), p ≠ q → Disjoint (L p) (L q))
    (hBL : Disjoint ((Finset.univ : Finset Tiles).biUnion B) ((Finset.univ : Finset Tiles).biUnion L))
    (hc : ((Finset.univ : Finset Tiles).biUnion B) ∪ ((Finset.univ : Finset Tiles).biUnion L) = Finset.univ) :
    (ℓ ↦{fullShare} f : sProp 𝕄)
      = iprop((bigSep Finset.univ fun p : Tiles => ℓ ↦[B p]{fullShare} f) ∗ bigSep Finset.univ fun p : Tiles => ℓ ↦[L p]{fullShare} f) := by
  rw [← hc, ← pointsTo_biUnion _ B hB, ← pointsTo_biUnion _ L hL]
  have h : (ℓ ↦[(Finset.univ : Finset Tiles).biUnion B ∪ (Finset.univ : Finset Tiles).biUnion L]{fullShare} f : sProp 𝕄)
      ⊣⊢ iprop((ℓ ↦[(Finset.univ : Finset Tiles).biUnion B]{fullShare} f) ∗ ℓ ↦[(Finset.univ : Finset Tiles).biUnion L]{fullShare} f) :=
    pointsTo_union hBL
  exact BI.equiv_iff.mp ⟨h.1, h.2⟩

/-- Three pairs are two triples. -/
theorem regroup (A A' B B' C C' : sProp 𝕄) :
    iprop((A ∗ A') ∗ (B ∗ B') ∗ (C ∗ C')) = iprop((A ∗ B ∗ C) ∗ (A' ∗ B' ∗ C')) := by
  have h1 : iprop((A ∗ A') ∗ (B ∗ B') ∗ (C ∗ C')) ⊢ iprop((A ∗ B ∗ C) ∗ (A' ∗ B' ∗ C')) := by
    iintro ⟨⟨H1, H2⟩, ⟨H3, H4⟩, H5, H6⟩
    isplitl [H1 H3 H5]
    · isplitl [H1]; · iexact H1
      isplitl [H3]; · iexact H3
      iexact H5
    · isplitl [H2]; · iexact H2
      isplitl [H4]; · iexact H4
      iexact H6
  have h2 : iprop((A ∗ B ∗ C) ∗ (A' ∗ B' ∗ C')) ⊢ iprop((A ∗ A') ∗ (B ∗ B') ∗ (C ∗ C')) := by
    iintro ⟨⟨H1, H3, H5⟩, H2, H4, H6⟩
    isplitl [H1 H2]
    · isplitl [H1]; · iexact H1
      iexact H2
    isplitl [H3 H4]
    · isplitl [H3]; · iexact H3
      iexact H4
    · isplitl [H5]; · iexact H5
      iexact H6
  exact BI.equiv_iff.mp ⟨h1, h2⟩

variable [FloatOps F] (m : (ℓ : Loc nD τ sig) → Buf (Elt F) ℓ)

/-- The three arrays are the tiles' parts of them, core by core. -/
theorem whole_parts (d : Dev nD) (f : Buf (Elt F) (oLoc d)) :
    (iprop((xLoc d ↦{fullShare} m (xLoc d)) ∗ (rLoc d ↦{fullShare} m (rLoc d)) ∗ (oLoc d ↦{fullShare} f)) : sProp 𝕄)
      = bigSep Finset.univ fun c : Fin 2 => bigSep Finset.univ fun i : Fin 16 => part m d (coordsV c i) f := by
  rw [show (bigSep Finset.univ fun c : Fin 2 => bigSep Finset.univ fun i : Fin 16 => part m d (coordsV c i) f)
      = bigSep (Finset.univ : Finset Tiles) fun p => part m d (tile p) f from
    (SparseCore.bigSep_product Finset.univ Finset.univ fun p : Tiles => part m d (tile p) f).symm]
  unfold part left
  rw [bigSep_sep', bigSep_sep', bigSep_sep', bigSep_sep', bigSep_sep',
    array_parts (ℓ := xLoc d) (m (xLoc d)) _ _ blk_disjoint tl_disjoint blk_tl_disjoint parts_cover,
    array_parts (ℓ := rLoc d) (m (rLoc d)) _ _ blk_disjoint tl_disjoint blk_tl_disjoint parts_cover,
    array_parts (ℓ := oLoc d) f _ _ blk_disjoint tl_disjoint blk_tl_disjoint parts_cover]
  exact regroup _ _ _ _ _ _

end Cert.Proof.KernelIdeal
-- ==== Proof.KernelIdealRun.lean ====
/-
  The run of `KernelIdeal`: the call hands every core its tiles' parts of the three arrays, every tile fills in its part of
  the result, and at the end the result holds every element of `x` gated by that of `r`, the arguments unchanged.
-/
module

public import proofs.«01_k».proof.Proof.KernelIdealParts
public import Idealize.ShloMosaic.Lib.SparseCore.Quiescent

@[expose] public section

noncomputable section

namespace Cert.Proof.KernelIdeal

open Cert.KernelIdeal Cert.KernelIdeal.Gen
open Cert.Proof.Dropout

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The launch's own semaphores and buffers are as it asks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- Where the handshakes' rounds live. -/
abbrev EH : Emb UH (MT nD τ sig (HIx 1) (Elt F) ℕ UU ℕ) := embL

variable (m : (ℓ : Loc nD τ sig) → Buf (Elt F) ℓ) (ρ : Dev nD → PrngReg) [FloatOps F]

/-! ## What the call hands over -/

/-- The parts of one core's tiles, the result's elements being those of `f`. -/
def corePart (d : Dev nD) (f : Buf (Elt F) (oLoc d)) (c : Fin 2) : sProp 𝕄 :=
  bigSep Finset.univ fun i : Fin 16 => part m d (coordsV c i) f

/-- A part can be handed over by the call, -/
instance part_storable (d : Dev nD) (L : grid0.Coords) (f : Buf (Elt F) (oLoc d)) : BI.Storable (upEmb : UEmb _ 𝕄) (part m d L f) := by
  unfold part left; infer_instance
/-- so can a core's parts, -/
instance corePart_storable (d : Dev nD) (f : Buf (Elt F) (oLoc d)) (c : Fin 2) : BI.Storable (upEmb : UEmb _ 𝕄) (corePart m d f c) := by
  haveI (i : Fin 16) : BI.Storable (upEmb : UEmb _ 𝕄) (part m d (coordsV c i) f) := part_storable m d (coordsV c i) f
  exact BI.Storable.bigSep _ _ _

/-- Every core gets its tiles' parts, every tile its own; they come back with the result filled in. -/
def P : (K (F := F)).Pay (nD := nD) (Val := Elt F) (Name := ℕ) (U := UU) where
  st := fun q d c => match q with | 0 => corePart m d (m (oLoc d)) c
  dn := fun q d c => match q with | 0 => corePart m d (out m d) c
  go := fun q d c i => match q with | 0 => part m d (coordsV c i) (m (oLoc d))
  td := fun q d c i => match q with | 0 => part m d (coordsV c i) (out m d)
  x := fun _ _ => iprop(emp)

/-- and so all that the call hands over. -/
instance P_storable : (P m).IsStorable where
  st q d c := match q with | 0 => corePart_storable m d (m (oLoc d)) c
  dn q d c := match q with | 0 => corePart_storable m d (out m d) c
  go q d c i := match q with | 0 => part_storable m d (coordsV c i) (m (oLoc d))
  td q d c i := match q with | 0 => part_storable m d (coordsV c i) (out m d)

/-! ## The tiles' and the cores' obligations -/

/-- What a tile runs for the call. -/
theorem defs₀_vector (c : Fin τ.nSC) (s : Fin τ.nSub) :
    defs₀ (F := F) (.scVector c s) 0 () = SparseCore.onTile hcore0 hsub0 (fun c s => cc0__dropout_body (coordsV c s) xV (Memref.isWhole_whole _) rV (Memref.isWhole_whole _) oV (Memref.isWhole_whole _)
      s0 (Memref.isWhole_whole _) s1 (Memref.isWhole_whole _) s2 (Memref.isWhole_whole _) s3 (Memref.isWhole_whole _)
      cc0_scoped0 cc0_scoped1 cc0_scoped2 cc0_scoped3 cc0_scoped4 cc0_scoped5) ⟨⟩ c s := rfl

omit [FloatOps F] in
/-- A tile's waits are among those the call allows. -/
theorem obl_post {thr : Thread nD τ} {A B C : sProp 𝕄} {O : CellTallies nD τ sig (HIx 1)} {W : Waits sig (HIx 1)} {q : Fin 1} :
    iprop(A ∗ B ∗ C ∗ ∃ W' : Waits sig (HIx 1), ⌜∀ p ∈ W', p ∈ W ∨ p.2 = none⌝ ∗ owes thr O W')
      ⊢ iprop(A ∗ B ∗ C ∗ ∃ W' : Waits sig (HIx 1), ⌜∀ p ∈ W', p ∈ W ∨ p.2 = none ∨ p.2 = some q⌝ ∗ owes thr O W') := by
  iintro ⟨Ha, Hb, Hc, %W', %hW, HO⟩
  isplitl [Ha]; · iexact Ha
  isplitl [Hb]; · iexact Hb
  isplitl [Hc]; · iexact Hc
  iexists W'
  isplitr
  · ipureintro; exact fun p hp => (hW p hp).imp id Or.inl
  · iexact HO

/-- Every tile does its part of the call. -/
theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

/-- What a core gets is what its tiles get, and what they give back is what it gives back. -/
theorem vecSplit : (K (F := F)).VecSplit' (P m) 0 := by
  intro d c
  show (bigSep Finset.univ fun i : Fin 16 => part m d (coordsV c i) (m (oLoc d))) ⊢ |={Set.univ}=> iprop((bigSep Finset.univ fun i : Fin 16 => part m d (coordsV c i) (m (oLoc d)))
      ∗ ((bigSep Finset.univ fun i : Fin 16 => part m d (coordsV c i) (out m d)) -∗ bigSep Finset.univ fun i : Fin 16 => part m d (coordsV c i) (out m d)))
  iintro H
  imodintro
  isplitl [H]; · iexact H
  iintro H
  iexact H

/-! ## The launch -/

/-- The launch starts with the handshakes' rounds and no copy under way. -/
def u₀ : UU := (initOf (K (F := F)).hsCells (K (F := F)).hsToks, 1)

omit [FloatOps F] in
/-- Nothing, once for every thread, is nothing. -/
theorem bigSep_emp' {I : Type} (s : Finset I) : (bigSep s fun _ => iprop(emp)) = (iprop(emp) : sProp 𝕄) := bigSep_emp_const s

/-- From it every thread has what the call needs to begin. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main -/

/-- The indices, which the call leaves alone. -/
abbrev aLoc (d : Dev nD) : Loc nD τ sig := (SparseCore.T d).loc main_arg0

omit [FloatOps F] in
/-- @main's arrays: the three arguments and the result. -/
theorem unscopedBufs_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_arg1) ∗ (rLoc d ↦{fullShare} W main_arg2) ∗ oLoc d ↦{fullShare} W main_v0) := by
  unfold unscopedBufs
  rw [show (Finset.univ.filter fun b : Ref sig .tc => ¬ b.isScoped) = {main_arg0, main_arg1, main_arg2, main_v0} by decide,
    SparseCore.bigSep_insert' (by decide), SparseCore.bigSep_insert' (by decide), SparseCore.bigSep_insert' (by decide), bigSep_singleton]

/-- The three arrays of the call, the result's elements being those of `f`. -/
abbrev arrays (d : Dev nD) (f : Buf (Elt F) (oLoc d)) : sProp 𝕄 :=
  iprop((xLoc d ↦{fullShare} m (xLoc d)) ∗ (rLoc d ↦{fullShare} m (rLoc d)) ∗ (oLoc d ↦{fullShare} f))

/-- The call takes the three arrays, -/
theorem st0_eq (d : Dev nD) : (bigSep Finset.univ fun c : Fin ((K (F := F)).nCore 0) => (P m).st 0 d c) = arrays m d (m (oLoc d)) :=
  (whole_parts m d (m (oLoc d))).symm
/-- and gives them back with the result filled in. -/
theorem dn0_eq (d : Dev nD) : (bigSep Finset.univ fun c : Fin ((K (F := F)).nCore 0) => (P m).dn 0 d c) = arrays m d (out m d) :=
  (whole_parts m d (out m d)).symm

/-- What @main ends with. -/
abbrev FIN (d : Dev nD) : sProp 𝕄 := iprop((aLoc d ↦{fullShare} m (aLoc d)) ∗ arrays m d (out m d))

/-- @main is the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hxro⟩, Hts, -⟩, -⟩
  iapply ((K (F := F)).wp_run (D (F := F)) 𝒱 (EH := EH) (P := P m) κ d 0) $$ [Hst Ha Hxro Hb Hts]
  isplitr; · iexact Hctx
  isplitl [Hst]; · iexact Hst
  isplitl [Hxro]
  · rw [st0_eq]; iexact Hxro
  iintro ⟨Hst, Hdn⟩
  ihave Hxro := (Entails.of_eq (dn0_eq m d)) $$ Hdn
  imodintro
  isplitl [Hst]; · iexact Hst
  isplitr [Hb Hts]
  · isplitl [Ha]; · iexact Ha
    iexact Hxro
  isplitl [Hb] <;> iassumption

/-- The final memory: the arguments as at the launch, the result gated. -/
def fq (d : Dev nD) (s' : Phys nD τ sig (Elt F)) : Prop :=
  s'.mem.mem (aLoc d) = m (aLoc d) ∧ s'.mem.mem (xLoc d) = m (xLoc d) ∧ s'.mem.mem (rLoc d) = m (rLoc d) ∧ s'.mem.mem (oLoc d) = out m d

omit [FloatOps F] in
/-- An array held whole is what the memory holds. -/
theorem read (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%h, HSI, -⟩
  isplitr
  · ipureintro; exact funext fun i => h i (Finset.mem_univ i)
  · iexact HSI

/-- What @main ends with is what the final memory holds. -/
theorem hfin (d : Dev nD) (s' : Phys nD τ sig (Elt F)) : iprop(FIN m d ∗ SI s') ⊢ (⌜fq m d s'⌝ : sProp 𝕄) := by
  iintro ⟨⟨Ha, Hx, Hr, Ho⟩, HSI⟩
  ihave H := (read s' (aLoc d) (m (aLoc d))) $$ [Ha HSI]
  · isplitl [Ha] <;> iassumption
  icases H with ⟨%ha, HSI⟩
  ihave H := (read s' (xLoc d) (m (xLoc d))) $$ [Hx HSI]
  · isplitl [Hx] <;> iassumption
  icases H with ⟨%hx, HSI⟩
  ihave H := (read s' (rLoc d) (m (rLoc d))) $$ [Hr HSI]
  · isplitl [Hr] <;> iassumption
  icases H with ⟨%hr, HSI⟩
  ihave H := (read s' (oLoc d) (out m d)) $$ [Ho HSI]
  · isplitl [Ho] <;> iassumption
  icases H with ⟨%ho, -⟩
  ipureintro; exact ⟨ha, hx, hr, ho⟩

/-- The run's end: on every device the arguments as at the launch and the result gated, every counter at zero. -/
def QC : PUnit × MemSt nD τ sig (Elt F) → Prop := fun r =>
  (∀ c : Dev nD, r.2.mem (aLoc c) = m (aLoc c) ∧ r.2.mem (xLoc c) = m (xLoc c) ∧ r.2.mem (rLoc c) = m (rLoc c) ∧ r.2.mem (oLoc c) = out m c) ∧ r.2.sem = fun _ => 0

/-- From any memory, for any floats, every weakly fair execution ends so. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelIdeal
-- ==== Proof.Equation.lean ====
/-
  The element equation over the extended reals: for `0 ≤ r`, keeping `x` when `⌊0.9 + r⌋ ≠ 0` and then scaling it is what
  `gate` computes: `x` scaled when `r + 0.9 ≥ 1`, else 0.
-/
module

public import proofs.«01_k».proof.Proof.Steps
public import proofs.«01_k».proof.Proof.Gen.ReferenceIdeal
public import proofs.«01_k».proof.Proof.Gen.Pre_nonneg
public import Idealize.ShloMosaic.PureOps.Ideal.Laws
public import Idealize.ShloMosaic.Lib.IdealHost
public import Idealize.ShloMosaic.Lib.ReduceAll

@[expose] public section

noncomputable section

namespace Cert.Proof.Dropout

open Idealize.ShloMosaic

/-- The floor of a number that is at least 0 is 0 exactly when the number is below 1. -/
theorem floor_ne_zero (y : EReal) (h : 0 ≤ y) : Ideal.liftRound Int.floor y ≠ 0 ↔ 1 ≤ y := by
  induction y with
  | bot => exact absurd h (by simp)
  | top =>
    have e : Ideal.liftRound Int.floor ⊤ = ⊤ := rfl
    simp [e]
  | coe r =>
    have h0 : 0 ≤ r := by exact_mod_cast h
    have e : Ideal.liftRound Int.floor ((r : ℝ) : EReal) = (((⌊r⌋ : ℤ) : ℝ) : EReal) := rfl
    rw [e, show (1 : EReal) = ((1 : ℝ) : EReal) from rfl, EReal.coe_le_coe_iff, Ne, EReal.coe_eq_zero, Int.cast_eq_zero,
      Int.floor_eq_zero_iff, Set.mem_Ico]
    constructor
    · intro hn; by_contra hr; exact hn ⟨h0, not_le.mp hr⟩
    · rintro hr ⟨-, hn⟩; exact absurd hn (not_lt.mpr hr)

/-- The kernel's 0.9 is at least 0. -/
theorem rate_nonneg : 0 ≤ Ideal.ofBits .f32 0x3F666666#32 := by
  rw [show (0 : EReal) = ((0 : ℝ) : EReal) from rfl]
  simp [Ideal.ofBits, Ideal.ieee, -EReal.coe_mul]

/-- One element: the reference's is the kernel's when `r` is at least 0. -/
theorem elem_eq (x r : EReal) (h : 0 ≤ r) :
    FloatOps.mulf (F := Ideal) (φ := .f32)
        (Scalar.select (FloatOps.cmpf (F := Ideal) (φ := .f32) .une
            (FloatOps.hostUnary (F := Ideal) (φ := .f32) .floor (FloatOps.addf (F := Ideal) (φ := .f32) (Ideal.ofBits .f32 0x3F666666#32) r)) (Ideal.ofBits .f32 0x00000000#32))
          x (Ideal.ofBits .f32 0x00000000#32)) (Ideal.ofBits .f32 0x3F8E38E4#32)
      = gate (F := Ideal) x r := by
  have hy : 0 ≤ r + Ideal.ofBits .f32 0x3F666666#32 := add_nonneg h rate_nonneg
  show (Scalar.select (Ideal.cmp .une (Ideal.liftRound Int.floor (Ideal.ofBits .f32 0x3F666666#32 + r)) (Ideal.ofBits .f32 0x00000000#32)) x (Ideal.ofBits .f32 0x00000000#32) : EReal)
      * Ideal.ofBits .f32 0x3F8E38E4#32
    = Scalar.select (Ideal.cmp .oge (r + Ideal.ofBits .f32 0x3F666666#32) (Ideal.ofBits .f32 0x3F800000#32)) (x * Ideal.ofBits .f32 0x3F8E38E4#32) (Ideal.ofBits .f32 0x00000000#32)
  rw [add_comm (Ideal.ofBits .f32 0x3F666666#32) r, Ideal.ofBits_zero_f32, Ideal.ofBits_one_f32,
    show Ideal.cmp .une (Ideal.liftRound Int.floor (r + Ideal.ofBits .f32 0x3F666666#32)) 0 = Ideal.cmp .oge (r + Ideal.ofBits .f32 0x3F666666#32) 1 from
      congrArg BitVec.ofBool (decide_eq_decide.mpr (floor_ne_zero _ hy))]
  unfold Scalar.select
  split
  · rfl
  · exact zero_mul _

/-- The precondition says of every element of `r` that it is at least 0. -/
theorem nonneg_of_pre (a : IVec Pre_nonneg.S2x268435 32) (x r : FVec Ideal Pre_nonneg.S268435 .f32)
    (h : Pre_nonneg.fn (F := Ideal) a x r = fun _ => 1#1) (j : Pre_nonneg.S268435.Idx) : (0 : EReal) ≤ r j := by
  haveI : Subsingleton Pre_nonneg.S_.Idx := ⟨fun a b => funext fun k => k.elim0⟩
  have e : Ideal.cmp .oge (r j) (Ideal.ofBits .f32 0x00000000#32) = 1#1 :=
    Host.reduce_andi_all _ _ _ _ (fun k => k.elim0) (congrFun h fun k => k.elim0) j
  rw [Ideal.ofBits_zero_f32] at e
  by_contra hn
  rw [show Ideal.cmp .oge (r j) 0 = BitVec.ofBool (decide ((0 : EReal) ≤ r j)) from rfl, decide_eq_false hn] at e
  exact absurd e (by decide)

/-- The reference's result is the array of gated elements when every element of `r` is at least 0. -/
theorem reference_eq (x r : FVec Ideal ReferenceIdeal.S268435 .f32) (h : ∀ j, (0 : EReal) ≤ r j) :
    mulf (select (id (cmpf .une (Host.floor (addf (broadcastInDim ReferenceIdeal.S268435 ![] ReferenceIdeal.Gen.bcast_S_S268435 (constant ReferenceIdeal.S_ .f32 0x3F666666#32)) r))
          (broadcastInDim ReferenceIdeal.S268435 ![] ReferenceIdeal.Gen.bcast_S_S268435 (constant ReferenceIdeal.S_ .f32 0x00000000#32)))) x
        (broadcastInDim ReferenceIdeal.S268435 ![] ReferenceIdeal.Gen.bcast_S_S268435 (id (constant ReferenceIdeal.S_ .f32 0x00000000#32))))
      (broadcastInDim ReferenceIdeal.S268435 ![] ReferenceIdeal.Gen.bcast_S_S268435 (constant ReferenceIdeal.S_ .f32 0x3F8E38E4#32))
      = fun j => gate (F := Ideal) (x j) (r j) :=
  funext fun j => elem_eq (x j) (r j) (h j)

end Cert.Proof.Dropout
-- ==== Proof.lean ====
/-
  The claims put together. The frames of the kernel and of its ideal reading, and the value of its results, are one run,
  proved for any floats (Proof/KernelRun.lean, Proof/KernelIdealRun.lean); the reference's run is the generated one; the results agree
  by the element equation (Proof/Equation.lean).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_nonneg
public import proofs.«01_k».proof.Proof.KernelRun
public import proofs.«01_k».proof.Proof.KernelIdealRun
public import proofs.«01_k».proof.Proof.Equation
public import Idealize.ShloMosaic.Adequacy
public import Idealize.ShloMosaic.Init

@[expose] public section

noncomputable section

namespace Cert.Proof

open Idealize.ShloMosaic Idealize.SL.Sem

/-- The kernel ends, its arguments unchanged and every counter at zero. -/
theorem frame_Kernel : Cert.quiescent_Kernel := fun m g _ =>
  (θ_run Cert.Kernel.defs _ _).mono (fun _ h => ⟨fun c => ⟨(h.1 c).1, (h.1 c).2.1, (h.1 c).2.2.1⟩, h.2⟩) (Kernel.run_main (F := Bits) m g)

/-- So does its ideal reading. -/
theorem frame_KernelIdeal : Cert.quiescent_KernelIdeal := fun m g _ =>
  (θ_run Cert.KernelIdeal.defs _ _).mono (fun _ h => ⟨fun c => ⟨(h.1 c).1, (h.1 c).2.1, (h.1 c).2.2.1⟩, h.2⟩) (KernelIdeal.run_main (F := Ideal) m g)

/-- The reference ends, its arguments unchanged; it has no semaphore. -/
theorem frame_ReferenceIdeal : Cert.quiescent_ReferenceIdeal := fun m g _ =>
  (θ_run Cert.ReferenceIdeal.defs _ _).mono (fun r h => ⟨fun c => (h c).2.2, sem_eq_zero_of_no_sems (by decide) r.2⟩)
    (ReferenceIdeal.Value.run (F := Ideal) m g)

/-- The kernel and the reference end with equal results when every element of `r` is at least 0: the indices, and
    every element of `x` gated by that of `r`. -/
theorem results_equal : Cert.algebraic_KernelIdeal_ReferenceIdeal_pre_nonneg := by
  intro m g m' g' hpre hagree
  refine ⟨fun c => m (KernelIdeal.aLoc c), fun c => KernelIdeal.out (F := Ideal) m c,
    (θ_run Cert.KernelIdeal.defs _ _).mono
      (fun _ h c => ⟨(h.1 c).1, (h.1 c).2.2.2, (h.1 c).1, (h.1 c).2.1, (h.1 c).2.2.1⟩) (KernelIdeal.run_main (F := Ideal) m g),
    (θ_run Cert.ReferenceIdeal.defs _ _).mono
      (fun _ h c => ⟨(h c).1.trans (hagree c).1, (h c).2.1.trans ?_, (h c).2.2⟩) (ReferenceIdeal.Value.run (F := Ideal) m' g')⟩
  rw [(hagree c).2.1, (hagree c).2.2]
  exact Dropout.reference_eq _ _ (Dropout.nonneg_of_pre _ _ _ (hpre c))

/-- Every claim of the certificate. -/
theorem claim : Cert.Claim := ⟨Cert.Kernel.Gen.facts, Cert.KernelIdeal.Gen.facts, Cert.ReferenceIdeal.Gen.facts, Cert.Pre_nonneg.Gen.facts,
  frame_Kernel, frame_KernelIdeal, fun m g _ => frame_KernelIdeal m g trivial, frame_ReferenceIdeal,
  fun m g _ => frame_ReferenceIdeal m g trivial, trivial, results_equal⟩

end Cert.Proof

end
